-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "b" .bf16 0x3D12#16 ((80338380498831 / 2251799813685248 : ℝ) : EReal)
  ∧ IdealRules.named_const.Statement Cert.KernelIdeal.κ "a" .bf16 0x3F4C#16 ((6693141 / 8388608 : ℝ) : EReal)

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S1x262144x128 : Shape := ⟨3, ![1, 262144, 128]⟩
abbrev S1x262144 : Shape := ⟨2, ![1, 262144]⟩
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S1x262144x128 .f32) (main_arg1 : IVec S1x262144 1) (main_arg2 : FVec F S262144x128 .f32) (main_arg3 : FVec F S128x128 .f32) (main_arg4 : FVec F S128 .f32) (main_arg5 : FVec F S128 .f32) (main_arg6 : FVec F S128 .f32) (main_arg7 : FVec F S128x512 .f32) (main_arg8 : FVec F S512 .f32) (main_arg9 : FVec F S512x128 .f32) (main_arg10 : FVec F S128 .f32) : IVec S_ 1 :=
  let main_v0 : FVec F S128 .f32 := Host.absf main_arg5
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg6
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x512 .f32 := Host.absf main_arg7
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg8
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S1x262144x128 : Shape := ⟨3, ![1, 262144, 128]⟩
abbrev S1x262144 : Shape := ⟨2, ![1, 262144]⟩
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S262144x1 : Shape := ⟨2, ![262144, 1]⟩
abbrev S1x128 : Shape := ⟨2, ![1, 128]⟩
abbrev S1x512 : Shape := ⟨2, ![1, 512]⟩
abbrev S2048x128 : Shape := ⟨2, ![2048, 128]⟩
abbrev S2048x1 : Shape := ⟨2, ![2048, 1]⟩
abbrev S2048 : Shape := ⟨1, ![2048]⟩

abbrev nBuf : Space → Nat
  | .hbm => 23
  | .vmem => 16
  | .smem => 0
  | _ => 0

abbrev bufTy : (tb : Table) → Fin (tcTables nBuf tb) → BufTy
  | .hbm, ⟨0, _⟩ => ⟨S1x262144x128, .f32⟩
  | .hbm, ⟨1, _⟩ => ⟨S1x262144, .i1⟩
  | .hbm, ⟨2, _⟩ => ⟨S262144x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S262144x128, .f32⟩
  | .hbm, ⟨12, _⟩ => ⟨S262144x128, .bf16⟩
  | .hbm, ⟨13, _⟩ => ⟨S262144x1, .i1⟩
  | .hbm, ⟨14, _⟩ => ⟨S262144x1, .f32⟩
  | .hbm, ⟨15, _⟩ => ⟨S1x262144x128, .f32⟩
  | .hbm, ⟨16, _⟩ => ⟨S262144x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x512, .f32⟩
  | .hbm, ⟨21, _⟩ => ⟨S1x128, .f32⟩
  | .hbm, ⟨22, _⟩ => ⟨S262144x128, .f32⟩
  | .local _ .vmem, ⟨0, _⟩ => ⟨S2048x128, .bf16⟩
  | .local _ .vmem, ⟨1, _⟩ => ⟨S2048x128, .bf16⟩
  | .local _ .vmem, ⟨2, _⟩ => ⟨S2048x1, .f32⟩
  | .local _ .vmem, ⟨3, _⟩ => ⟨S2048x1, .f32⟩
  | .local _ .vmem, ⟨4, _⟩ => ⟨S2048x128, .f32⟩
  | .local _ .vmem, ⟨5, _⟩ => ⟨S2048x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | _, _ => ⟨S1x262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "a" => some ((6693141 / 8388608 : ℝ) : EReal)
  | "b" => some ((80338380498831 / 2251799813685248 : ℝ) : EReal)
  | _ => none
-- ==== ReferenceIdeal.lean ====
abbrev S1x262144x128 : Shape := ⟨3, ![1, 262144, 128]⟩
abbrev S1x262144 : Shape := ⟨2, ![1, 262144]⟩
abbrev S262144x128 : Shape := ⟨2, ![262144, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S1x1x128 : Shape := ⟨3, ![1, 1, 128]⟩
abbrev S1x262144x1 : Shape := ⟨3, ![1, 262144, 1]⟩
abbrev S_ : Shape := ⟨0, ![]⟩
abbrev S1x262144x512 : Shape := ⟨3, ![1, 262144, 512]⟩
abbrev S1x1x512 : Shape := ⟨3, ![1, 1, 512]⟩

abbrev nBuf : Space → Nat
  | .hbm => 90
  | .vmem => 0
  | .smem => 0
  | _ => 0

abbrev bufTy : (tb : Table) → Fin (tcTables nBuf tb) → BufTy
  | .hbm, ⟨0, _⟩ => ⟨S1x262144x128, .f32⟩
  | .hbm, ⟨1, _⟩ => ⟨S1x262144, .i1⟩
  | .hbm, ⟨2, _⟩ => ⟨S262144x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1x262144x128, .f32⟩
  | .hbm, ⟨12, _⟩ => ⟨S1x1x128, .f32⟩
  | .hbm, ⟨13, _⟩ => ⟨S1x262144x128, .f32⟩
  | .hbm, ⟨14, _⟩ => ⟨S1x262144x128, .f32⟩
  | .hbm, ⟨15, _⟩ => ⟨S1x262144x1, .i1⟩
  | .hbm, ⟨16, _⟩ => ⟨S1x262144x128, .f32⟩
  | .hbm, ⟨17, _⟩ => ⟨S1x262144x128, .i1⟩
  | .hbm, ⟨18, _⟩ => ⟨S1x262144x128, .f32⟩
  | .hbm, ⟨19, _⟩ => ⟨S_, .f32⟩
  | .hbm, ⟨20, _⟩ => ⟨S1x262144, .f32⟩
  | .hbm, ⟨21, _⟩ => ⟨S1x262144x1, .f32⟩
  | .hbm, ⟨22, _⟩ => ⟨S_, .f32⟩
  | .hbm, ⟨23, _⟩ => ⟨S1x262144x1, .f32⟩
  | .hbm, ⟨24, _⟩ => ⟨S1x262144x1, .f32⟩
  | .hbm, ⟨25, _⟩ => ⟨S_, .i32⟩
  | .hbm, ⟨26, _⟩ => ⟨S_, .f32⟩
  | .hbm, ⟨27, _⟩ => ⟨S1x262144, .f32⟩
  | .hbm, ⟨28, _⟩ => ⟨S1x262144x1, .f32⟩
  | .hbm, ⟨29, _⟩ => ⟨S_, .f32⟩
  | .hbm, ⟨30, _⟩ => ⟨S1x262144x1, .f32⟩
  | .hbm, ⟨31, _⟩ => ⟨S1x262144x1, .f32⟩
  | .hbm, ⟨32, _⟩ => ⟨S1x262144x128, .f32⟩
  | .hbm, ⟨33, _⟩ => ⟨S1x262144x128, .f32⟩
  | .hbm, ⟨34, _⟩ => ⟨S1x262144x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x262144, .f32⟩
  | .hbm, ⟨40, _⟩ => ⟨S1x262144x1, .f32⟩
  | .hbm, ⟨41, _⟩ => ⟨S1x262144x1, .f32⟩
  | .hbm, ⟨42, _⟩ => ⟨S1x262144x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S1x262144x1, .f32⟩
  | .hbm, ⟨48, _⟩ => ⟨S1x262144x1, .f32⟩
  | .hbm, ⟨49, _⟩ => ⟨S1x262144x128, .f32⟩
  | .hbm, ⟨50, _⟩ => ⟨S1x262144x128, .f32⟩
  | .hbm, ⟨51, _⟩ => ⟨S_, .f32⟩
  | .hbm, ⟨52, _⟩ => ⟨S1x262144x1, .f32⟩
  | .hbm, ⟨53, _⟩ => ⟨S1x262144x1, .f32⟩
  | .hbm, ⟨54, _⟩ => ⟨S1x262144x1, .f32⟩
  | .hbm, ⟨55, _⟩ => ⟨S1x262144x128, .f32⟩
  | .hbm, ⟨56, _⟩ => ⟨S1x262144x128, .f32⟩
  | .hbm, ⟨57, _⟩ => ⟨S1x1x128, .f32⟩
  | .hbm, ⟨58, _⟩ => ⟨S1x262144x128, .f32⟩
  | .hbm, ⟨59, _⟩ => ⟨S1x262144x128, .f32⟩
  | .hbm, ⟨60, _⟩ => ⟨S1x1x128, .f32⟩
  | .hbm, ⟨61, _⟩ => ⟨S1x262144x128, .f32⟩
  | .hbm, ⟨62, _⟩ => ⟨S1x262144x128, .f32⟩
  | .hbm, ⟨63, _⟩ => ⟨S1x262144x512, .f32⟩
  | .hbm, ⟨64, _⟩ => ⟨S1x1x512, .f32⟩
  | .hbm, ⟨65, _⟩ => ⟨S1x262144x512, .f32⟩
  | .hbm, ⟨66, _⟩ => ⟨S1x262144x512, .f32⟩
  | .hbm, ⟨67, _⟩ => ⟨S1x262144x512, .f32⟩
  | .hbm, ⟨68, _⟩ => ⟨S1x262144x512, .f32⟩
  | .hbm, ⟨69, _⟩ => ⟨S_, .f32⟩
  | .hbm, ⟨70, _⟩ => ⟨S1x262144x512, .f32⟩
  | .hbm, ⟨71, _⟩ => ⟨S1x262144x512, .f32⟩
  | .hbm, ⟨72, _⟩ => ⟨S1x262144x512, .f32⟩
  | .hbm, ⟨73, _⟩ => ⟨S_, .f32⟩
  | .hbm, ⟨74, _⟩ => ⟨S1x262144x512, .f32⟩
  | .hbm, ⟨75, _⟩ => ⟨S1x262144x512, .f32⟩
  | .hbm, ⟨76, _⟩ => ⟨S1x262144x512, .f32⟩
  | .hbm, ⟨77, _⟩ => ⟨S_, .f32⟩
  | .hbm, ⟨78, _⟩ => ⟨S1x262144x512, .f32⟩
  | .hbm, ⟨79, _⟩ => ⟨S1x262144x512, .f32⟩
  | .hbm, ⟨80, _⟩ => ⟨S_, .f32⟩
  | .hbm, ⟨81, _⟩ => ⟨S1x262144x512, .f32⟩
  | .hbm, ⟨82, _⟩ => ⟨S1x262144x512, .f32⟩
  | .hbm, ⟨83, _⟩ => ⟨S1x262144x512, .f32⟩
  | .hbm, ⟨84, _⟩ => ⟨S1x262144x128, .f32⟩
  | .hbm, ⟨85, _⟩ => ⟨S1x1x128, .f32⟩
  | .hbm, ⟨86, _⟩ => ⟨S1x262144x128, .f32⟩
  | .hbm, ⟨87, _⟩ => ⟨S1x262144x128, .f32⟩
  | .hbm, ⟨88, _⟩ => ⟨S1x262144x128, .f32⟩
  | .hbm, ⟨89, _⟩ => ⟨S262144x128, .f32⟩
  | _, _ => ⟨S1x262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_v0 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_2 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_3 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_cst_5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]
-- ==== Proof.RowMath.lean ====
/-
  The block's mathematics on ONE row: a voxel's 128 channels through the field-of-view choice, the layer norm and the
  two-layer network with its residual, once in the order in which the kernel takes the steps and once in the order in
  which the reference takes them. Everything is a function on the extended reals; no program is mentioned.
-/
module

public import Idealize.ShloMosaic.PureOps.Ideal
public import Idealize.ShloMosaic.PureOps.Ideal.Laws

@[expose] public section

noncomputable section

namespace I2st

open Idealize.ShloMosaic
open scoped BigOperators

/-- The number of channels, 128, as the programs write it: an f32 word. -/
def width : EReal := Ideal.ofBits .f32 0x43000000#32

/-- The small number the layer norm adds to the variance, as the programs write it: an f32 word. -/
def eps : EReal := Ideal.ofBits .f32 0x3727C5AC#32

/-- One half, as the reference writes it: an f32 word. -/
def half : EReal := Ideal.ofBits .f32 0x3F000000#32

/-- The square root of 2/π, as the reference writes it: an f32 word. -/
def root : EReal := Ideal.ofBits .f32 0x3F4C422A#32

/-- The cubic term's coefficient 0.044715, as the reference writes it: an f32 word. -/
def cubic : EReal := Ideal.ofBits .f32 0x3D372713#32

/-- A voxel's features: the projected image features where the voxel is in the field of view, the learned ones
elsewhere. -/
def scene (seen : Prop) [Decidable seen] (x : Fin 128 → EReal) (w : Fin 128 → Fin 128 → EReal) (b e : Fin 128 → EReal)
    (l : Fin 128) : EReal :=
  if seen then (∑ k : Fin 128, x k * w k l) + b l else e l

/-- A row's mean. -/
def mean (s : Fin 128 → EReal) : EReal := Ideal.div (∑ k : Fin 128, s k) width

/-- A row less its mean. -/
def centred (s : Fin 128 → EReal) (l : Fin 128) : EReal := s l - mean s

/-- A row's variance: the mean of the squares of the centred row. -/
def variance (s : Fin 128 → EReal) : EReal := Ideal.div (∑ k : Fin 128, centred s k * centred s k) width

/-- The layer norm as the kernel computes it: times the reciprocal square root. -/
def normK (s g b : Fin 128 → EReal) (l : Fin 128) : EReal :=
  centred s l * Ideal.rsqrt (variance s + eps) * g l + b l

/-- The layer norm as the reference computes it: over the square root. -/
def normR (s g b : Fin 128 → EReal) (l : Fin 128) : EReal :=
  Ideal.div (centred s l) (Ideal.sqrt (variance s + eps)) * g l + b l

/-- The first layer before its activation, unit `k`. -/
def preact (h : Fin 128 → EReal) (w : Fin 128 → Fin 512 → EReal) (b : Fin 512 → EReal) (k : Fin 512) : EReal :=
  (∑ l : Fin 128, h l * w l k) + b k

/-- The kernel's first activation constant, the one named `a`. -/
def kerA : EReal := ((6693141 / 8388608 : ℝ) : EReal)

/-- The kernel's second activation constant, the one named `b`. -/
def kerB : EReal := ((80338380498831 / 2251799813685248 : ℝ) : EReal)

/-- One half, as the kernel writes it: a bf16 word. -/
def halfK : EReal := Ideal.ofBits .bf16 0x3F00#16

/-- The activation as the kernel computes it. -/
def geluK (v : EReal) : EReal := halfK * v + halfK * v * Ideal.tanh (v * (kerB * v * v + kerA))

/-- The activation as the reference computes it. -/
def geluR (v : EReal) : EReal :=
  v * (half * (1 + Ideal.tanh (root * (v + cubic * (v * v * v)))))

/-- Unit `128 * j + k` of the hidden layer, by the number `j` of its chunk and its place `k` in the chunk. -/
def unit (j : Fin 4) (k : Fin 128) : Fin 512 := ⟨128 * j.val + k.val, by omega⟩

/-- One chunk of the second layer: the 128 hidden units of chunk `j`. -/
def chunk (f : Fin 512 → EReal) (w : Fin 512 → Fin 128 → EReal) (j : Fin 4) (l : Fin 128) : EReal :=
  ∑ k : Fin 128, f (unit j k) * w (unit j k) l

/-- The network with its residual as the kernel adds it up: the residual and the second bias first, then the four
chunks of the hidden layer one after another. -/
def netK (h : Fin 128 → EReal) (w1 : Fin 128 → Fin 512 → EReal) (b1 : Fin 512 → EReal) (w2 : Fin 512 → Fin 128 → EReal)
    (b2 : Fin 128 → EReal) (l : Fin 128) : EReal :=
  h l + b2 l + chunk (fun k => geluK (preact h w1 b1 k)) w2 0 l + chunk (fun k => geluK (preact h w1 b1 k)) w2 1 l
    + chunk (fun k => geluK (preact h w1 b1 k)) w2 2 l + chunk (fun k => geluK (preact h w1 b1 k)) w2 3 l

/-- The network with its residual as the reference adds it up: the second layer's one product, its bias, the residual. -/
def netR (h : Fin 128 → EReal) (w1 : Fin 128 → Fin 512 → EReal) (b1 : Fin 512 → EReal) (w2 : Fin 512 → Fin 128 → EReal)
    (b2 : Fin 128 → EReal) (l : Fin 128) : EReal :=
  h l + ((∑ k : Fin 512, geluR (preact h w1 b1 k) * w2 k l) + b2 l)

end I2st

end
-- ==== Proof.BlockValue.lean ====
/-
  What ONE BLOCK of the kernel computes: its payloads, read at a row and a channel, are the row functions of
  RowMath.lean of that row of the block.
-/
module

public import proofs.«01_k».proof.Proof.RowMath
public import proofs.«01_k».proof.Proof.Gen.KernelIdeal.Frame
public import Idealize.ShloMosaic.Lib.Pointwise
public import Idealize.ShloMosaic.Lib.Pipeline.ValueKit

@[expose] public section

set_option maxRecDepth 16384

noncomputable section

namespace I2st.Block

open Idealize.ShloMosaic Cert.KernelIdeal Cert.KernelIdeal.Gen
open scoped BigOperators

/-- The named constant `a` is the exact rational the statement gives it. -/
theorem named_a : (Named.named κ "a" 0x3F4C#16 : Ideal .bf16) = kerA := by
  simp [Named.named, κ, kerA]

/-- The named constant `b` is the exact rational the statement gives it. -/
theorem named_b : (Named.named κ "b" 0x3D12#16 : Ideal .bf16) = kerB := by
  simp [Named.named, κ, kerB]

/-- The normalized and scaled row, before the layer norm's bias. -/
theorem pay2_apply (x : Vec Ideal S2048x128 .bf16) (w : Vec Ideal S128x128 .f32) (b : Vec Ideal S1x128 .f32)
    (f : Vec Ideal S2048x1 .f32) (e : Vec Ideal S2048x128 .f32) (g lb : Vec Ideal S1x128 .f32) (r : Fin 2048) (l : Fin 128) :
    k0_pay2 x w b f e g (ix2 r l) + lb (ix2 0 l)
      = normK (scene (0 < f (ix2 r 0)) (fun k => x (ix2 r k)) (fun k l => w (ix2 k l)) (fun l => b (ix2 0 l))
          (fun l => e (ix2 r l))) (fun l => g (ix2 0 l)) (fun l => lb (ix2 0 l)) l := by
  pointwise [k0_pay2]
  rfl

/-- THE STORED BLOCK at row `r` and channel `l`, from the eleven input blocks: the network on the layer norm of the row,
added up in the kernel's order. -/
theorem out_apply (x0 : Vec Ideal S2048x128 .bf16) (x1 : Vec Ideal S2048x1 .f32) (x2 : Vec Ideal S2048x128 .f32)
    (x3 : Vec Ideal S128x128 .f32) (x4 x5 x6 : Vec Ideal S1x128 .f32) (x7 : Vec Ideal S128x512 .f32)
    (x8 : Vec Ideal S1x512 .f32) (x9 : Vec Ideal S512x128 .f32) (x10 : Vec Ideal S1x128 .f32) (r : Fin 2048) (l : Fin 128) :
    out0_11 x0 x1 x2 x3 x4 x5 x6 x7 x8 x9 x10 (ix2 r l)
      = netK (normK (scene (0 < x1 (ix2 r 0)) (fun k => x0 (ix2 r k)) (fun k l => x3 (ix2 k l)) (fun l => x4 (ix2 0 l))
          (fun l => x2 (ix2 r l))) (fun l => x5 (ix2 0 l)) (fun l => x6 (ix2 0 l)))
        (fun l k => x7 (ix2 l k)) (fun k => x8 (ix2 0 k)) (fun k l => x9 (ix2 k l)) (fun l => x10 (ix2 0 l)) l := by
  unfold_out out0_11
  frame_out
  have hp := pay2_apply x0 x3 x4 x1 x2 x5 x6 r
  generalize k0_pay2 x0 x3 x4 x1 x2 x5 = a at hp ⊢
  simp only [netK, chunk, preact, ← hp]
  clear hp
  pointwise [k0_pay1, k0_pay3, k0_pay4, k0_pay5, k0_pay6, k0_pay7, k0_pay8, k0_pay9, k0_pay10, k0_pay11, k0_pay12, named_a,
    named_b]
  simp only [geluK, halfK, unit, Fin.val_zero, Fin.val_one, Fin.val_two, Nat.mul_zero, Nat.zero_add, Nat.mul_one]
  rfl

end I2st.Block

end
-- ==== Proof.ArrayValue.lean ====
/-
  What the kernel's result ARRAY holds after a run: the arrays the grid's blocks are read from, each input block in the
  arguments' own coordinates, and from these, point by point, the whole result array as one function of the arguments.
-/
module

public import proofs.«01_k».proof.Proof.BlockValue
public import proofs.«01_k».proof.Proof.Gen.KernelIdeal.Value

@[expose] public section

set_option maxRecDepth 16384

noncomputable section

namespace I2st.Array

open Idealize.ShloMosaic Idealize.ShloMosaic.TcCoe Cert.KernelIdeal Cert.KernelIdeal.Gen
open scoped BigOperators

variable (m : (ℓ : Loc nD τ sig) → Buf (Elt Ideal) ℓ) (c : Dev nD)

/-! ## The arrays the region finds, each in the coordinates of the argument it is made from -/

/-- The features the region reads are argument 0's, one voxel a row. -/
theorem entry_v1 (n : Fin 262144) (k : Fin 128) : V m c main_v1 (ix2 n k) = m ((c.tc : Thread nD τ).loc main_arg0) (ix3 0 n k) := by
  entry_read
  pointwise

/-- The mask the region reads is argument 1's bit as a number. -/
theorem entry_v3 (n : Fin 262144) : V m c main_v3 (ix2 n 0) = (((m ((c.tc : Thread nD τ).loc main_arg1) (ix2 0 n)).toNat : ℝ) : EReal) := by
  entry_read
  pointwise
  rfl

/-- The scene embedding the region reads is argument 2's. -/
theorem entry_v5 (n : Fin 262144) (l : Fin 128) : V m c main_v5 (ix2 n l) = m ((c.tc : Thread nD τ).loc main_arg2) (ix2 n l) := by
  entry_read
  pointwise

/-- The projection's bias the region reads is argument 4's. -/
theorem entry_v6 (l : Fin 128) : V m c main_v6 (ix2 0 l) = m ((c.tc : Thread nD τ).loc main_arg4) (ix1 l) := by
  entry_read
  pointwise

/-- The layer norm's scale the region reads is argument 5's. -/
theorem entry_v7 (l : Fin 128) : V m c main_v7 (ix2 0 l) = m ((c.tc : Thread nD τ).loc main_arg5) (ix1 l) := by
  entry_read
  pointwise

/-- The layer norm's bias the region reads is argument 6's. -/
theorem entry_v8 (l : Fin 128) : V m c main_v8 (ix2 0 l) = m ((c.tc : Thread nD τ).loc main_arg6) (ix1 l) := by
  entry_read
  pointwise

/-- The first layer's bias the region reads is argument 8's. -/
theorem entry_v9 (l : Fin 512) : V m c main_v9 (ix2 0 l) = m ((c.tc : Thread nD τ).loc main_arg8) (ix1 l) := by
  entry_read
  pointwise

/-- The second layer's bias the region reads is argument 10's. -/
theorem entry_v10 (l : Fin 128) : V m c main_v10 (ix2 0 l) = m ((c.tc : Thread nD τ).loc main_arg10) (ix1 l) := by
  entry_read
  pointwise

/-! ## The input blocks at a grid point -/

/-- The block each row-tiled window moves is the grid point's, decided over the 128 points. -/
theorem idx_rows (t : Fin cfg0.N) :
    win0_0.index t = ![t.val, 0] ∧ win0_1.index t = ![t.val, 0] ∧ win0_2.index t = ![t.val, 0] ∧ win0_11.index t = ![t.val, 0] :=
  (by decide +kernel : ∀ t : Fin grid0.N, win0_0.index t = ![t.val, 0] ∧ win0_1.index t = ![t.val, 0]
    ∧ win0_2.index t = ![t.val, 0] ∧ win0_11.index t = ![t.val, 0]) t

/-- Every parameter's window is its whole array at every point, decided over the 128 points. -/
theorem idx_params (t : Fin cfg0.N) :
    win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0] :=
  (by decide +kernel : ∀ t : Fin grid0.N, win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0]) t

/-- The voxel that row `r` of block `t` is. -/
def voxel (t : Fin cfg0.N) (r : Fin 2048) : Fin 262144 :=
  ⟨t.val * 2048 + r.val, by have h : t.val < 128 := t.isLt; omega⟩

/-- Block `t` of the features. -/
theorem blk0 (t : Fin cfg0.N) (r : Fin 2048) (k : Fin 128) : iblk m c 0 t (ix2 r k) = m ((c.tc : Thread nD τ).loc main_arg0) (ix3 0 (voxel t r) k) := by
  rw [← entry_v1 m c]
  blk_ext [iblk, voxel, idx_rows t]

/-- Block `t` of the mask. -/
theorem blk1 (t : Fin cfg0.N) (r : Fin 2048) : iblk m c 1 t (ix2 r 0) = (((m ((c.tc : Thread nD τ).loc main_arg1) (ix2 0 (voxel t r))).toNat : ℝ) : EReal) := by
  rw [← entry_v3 m c]
  blk_ext [iblk, voxel, idx_rows t]

/-- Block `t` of the scene embedding. -/
theorem blk2 (t : Fin cfg0.N) (r : Fin 2048) (l : Fin 128) : iblk m c 2 t (ix2 r l) = m ((c.tc : Thread nD τ).loc main_arg2) (ix2 (voxel t r) l) := by
  rw [← entry_v5 m c]
  blk_ext [iblk, voxel, idx_rows t]

/-- The projection's weights. -/
theorem blk3 (t : Fin cfg0.N) (k l : Fin 128) : iblk m c 3 t (ix2 k l) = m ((c.tc : Thread nD τ).loc main_arg3) (ix2 k l) := by
  rw [← V_main_arg3 m c]
  blk_ext [iblk, voxel, idx_params t]

/-- The projection's bias. -/
theorem blk4 (t : Fin cfg0.N) (l : Fin 128) : iblk m c 4 t (ix2 0 l) = m ((c.tc : Thread nD τ).loc main_arg4) (ix1 l) := by
  rw [← entry_v6 m c]
  blk_ext [iblk, voxel, idx_params t]

/-- The layer norm's scale. -/
theorem blk5 (t : Fin cfg0.N) (l : Fin 128) : iblk m c 5 t (ix2 0 l) = m ((c.tc : Thread nD τ).loc main_arg5) (ix1 l) := by
  rw [← entry_v7 m c]
  blk_ext [iblk, voxel, idx_params t]

/-- The layer norm's bias. -/
theorem blk6 (t : Fin cfg0.N) (l : Fin 128) : iblk m c 6 t (ix2 0 l) = m ((c.tc : Thread nD τ).loc main_arg6) (ix1 l) := by
  rw [← entry_v8 m c]
  blk_ext [iblk, voxel, idx_params t]

/-- The first layer's weights. -/
theorem blk7 (t : Fin cfg0.N) (l : Fin 128) (k : Fin 512) : iblk m c 7 t (ix2 l k) = m ((c.tc : Thread nD τ).loc main_arg7) (ix2 l k) := by
  rw [← V_main_arg7 m c]
  blk_ext [iblk, voxel, idx_params t]

/-- The first layer's bias. -/
theorem blk8 (t : Fin cfg0.N) (l : Fin 512) : iblk m c 8 t (ix2 0 l) = m ((c.tc : Thread nD τ).loc main_arg8) (ix1 l) := by
  rw [← entry_v9 m c]
  blk_ext [iblk, voxel, idx_params t]

/-- The second layer's weights. -/
theorem blk9 (t : Fin cfg0.N) (k : Fin 512) (l : Fin 128) : iblk m c 9 t (ix2 k l) = m ((c.tc : Thread nD τ).loc main_arg9) (ix2 k l) := by
  rw [← V_main_arg9 m c]
  blk_ext [iblk, voxel, idx_params t]

/-- The second layer's bias. -/
theorem blk10 (t : Fin cfg0.N) (l : Fin 128) : iblk m c 10 t (ix2 0 l) = m ((c.tc : Thread nD τ).loc main_arg10) (ix1 l) := by
  rw [← entry_v10 m c]
  blk_ext [iblk, voxel, idx_params t]

/-- A bit read as a number is positive exactly when the bit is set. -/
theorem bit_pos (b : BitVec 1) : (0 : EReal) < ((b.toNat : ℝ) : EReal) ↔ b = 1#1 := by
  rcases BitVec.eq_zero_or_eq_one b with rfl | rfl <;> simp

/-! ## The result array -/

/-- Voxel `n`'s features in the scene, from the arguments. -/
def features (n : Fin 262144) : Fin 128 → EReal :=
  scene (m ((c.tc : Thread nD τ).loc main_arg1) (ix2 0 n) = 1#1) (fun k => m ((c.tc : Thread nD τ).loc main_arg0) (ix3 0 n k))
    (fun k l => m ((c.tc : Thread nD τ).loc main_arg3) (ix2 k l)) (fun l => m ((c.tc : Thread nD τ).loc main_arg4) (ix1 l)) (fun l => m ((c.tc : Thread nD τ).loc main_arg2) (ix2 n l))

/-- WHAT THE RESULT ARRAY HOLDS: at voxel `n` and channel `l` the network on the layer norm of the voxel's features, in the
kernel's order. -/
def result : Buf (Elt Ideal) ((c.tc : Thread nD τ).loc main_v11) := fun i : S262144x128.Idx =>
  netK (normK (features m c (i 0)) (fun l => m ((c.tc : Thread nD τ).loc main_arg5) (ix1 l)) (fun l => m ((c.tc : Thread nD τ).loc main_arg6) (ix1 l)))
    (fun l k => m ((c.tc : Thread nD τ).loc main_arg7) (ix2 l k)) (fun k => m ((c.tc : Thread nD τ).loc main_arg8) (ix1 k))
    (fun k l => m ((c.tc : Thread nD τ).loc main_arg9) (ix2 k l)) (fun l => m ((c.tc : Thread nD τ).loc main_arg10) (ix1 l)) (i 1)

/-- The scene row that the kernel computes from its blocks is the voxel's features. -/
theorem scene_eq (t : Fin cfg0.N) (r : Fin 2048) :
    scene (@LT.lt EReal _ 0 (iblk m c 1 t (ix2 r 0))) (fun k => iblk m c 0 t (ix2 r k)) (fun k l => iblk m c 3 t (ix2 k l))
      (fun l => iblk m c 4 t (ix2 0 l)) (fun l => iblk m c 2 t (ix2 r l)) = features m c (voxel t r) := by
  funext l
  unfold features scene
  beta_reduce
  rw [blk4, blk2]
  refine if_congr ?_ (congrArg (· + _) (Finset.sum_congr rfl fun k _ => ?_)) rfl
  · rw [blk1]; exact bit_pos _
  · rw [blk0, blk3]

/-- What point `t` writes at row `r` and channel `l` of its block is the result array's element at that voxel. -/
theorem point_eq (t : Fin cfg0.N) (r : Fin 2048) (l : Fin 128) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r l) = result m c (ix2 (voxel t r) l) := by
  rw [Block.out_apply]
  rw [scene_eq]
  simp only [blk5, blk6, blk7, blk8, blk9, blk10]
  rfl

/-- The result array after the run is `result`: every point writes its block of it, and the blocks cover the array. -/
theorem array_eq : (dats m 0 c).arrAt 11 cfg0.N = result m c := by
  refine (dats m 0 c).arrAt_eq_of_covers 11 _ (by decide +kernel) fun t hf y => ?_
  blk_simp
  rw [after0_11]
  idx_vars y
  rw [point_eq]
  generalize result m c = R
  refine congrArg R ?_
  blk_ext [voxel, idx_rows t]

end I2st.Array

end
-- ==== Proof.Equation.lean ====
/-
  THE EQUATION of the two orders: on every row of features, finite or not, and for layer-norm and first-layer parameters
  that are real numbers, the network on the layer norm is the same extended real in the kernel's order and in the
  reference's.
-/
module

public import proofs.«01_k».proof.Proof.RowMath
public import Mathlib.Analysis.SpecialFunctions.Pow.Real

@[expose] public section

noncomputable section

namespace I2st

open Idealize.ShloMosaic
open scoped BigOperators

/-! ## The constants as real numbers -/

/-- The width word is 128. -/
theorem width_eq : width = ((128 : ℝ) : EReal) := by
  simp [width, Ideal.ofBits, Ideal.ieee, -EReal.coe_mul]; norm_num

/-- The width is positive. -/
theorem width_pos : 0 < width := by rw [width_eq]; exact_mod_cast (by norm_num : (0 : ℝ) < 128)

/-- The layer norm's small number is a positive real. -/
theorem eps_eq : ∃ e : ℝ, 0 < e ∧ eps = (e : EReal) := by
  refine ⟨10995116 * 2 ^ (-40 : ℤ), by positivity, ?_⟩
  simp [eps, Ideal.ofBits, Ideal.ieee, -EReal.coe_mul]

/-- The reference's half is 1/2. -/
theorem half_eq : half = ((1 / 2 : ℝ) : EReal) := by
  simp [half, Ideal.ofBits, Ideal.ieee, -EReal.coe_mul]; norm_num

/-- The kernel's half is 1/2. -/
theorem halfK_eq : halfK = ((1 / 2 : ℝ) : EReal) := by
  simp [halfK, Ideal.ofBits, Ideal.ieee, -EReal.coe_mul]; norm_num

/-- The reference's square root of 2/π is the rational the kernel's `a` names. -/
theorem root_eq : root = ((6693141 / 8388608 : ℝ) : EReal) := by
  simp [root, Ideal.ofBits, Ideal.ieee, -EReal.coe_mul]; norm_num

/-- The reference's cubic coefficient as a rational. -/
theorem cubic_eq : cubic = ((12003091 / 268435456 : ℝ) : EReal) := by
  simp [cubic, Ideal.ofBits, Ideal.ieee, -EReal.coe_mul]; norm_num

/-! ## Real numbers among the extended reals -/

/-- An extended real that is a real number. -/
def IsReal (x : EReal) : Prop := ∃ r : ℝ, x = (r : EReal)

/-- Neither infinity means real. -/
theorem IsReal.of_ne {x : EReal} (hb : x ≠ ⊥) (ht : x ≠ ⊤) : IsReal x := ⟨x.toReal, (EReal.coe_toReal ht hb).symm⟩

/-- Sums of real numbers are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Products of real numbers are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Finite sums of real numbers are real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A square is not negative. -/
theorem sq_nonneg' (x : EReal) : 0 ≤ x * x := by
  induction x with
  | bot => simp
  | coe r => exact_mod_cast mul_self_nonneg r
  | top => simp

/-- A number whose square is not `⊤` is real. -/
theorem IsReal.of_sq {x : EReal} (h : x * x ≠ ⊤) : IsReal x :=
  .of_ne (fun e => h (by simp [e])) (fun e => h (by simp [e]))

/-! ## The layer norm -/

/-- The variance as a product. -/
theorem variance_eq (s : Fin 128 → EReal) :
    variance s = (∑ k : Fin 128, centred s k * centred s k) * ((1 / 128 : ℝ) : EReal) := by
  unfold variance; rw [width_eq, Ideal.div_coe (by norm_num)]

/-- The squares' sum is not negative. -/
theorem sum_sq_nonneg (s : Fin 128 → EReal) : 0 ≤ ∑ k : Fin 128, centred s k * centred s k :=
  Finset.sum_nonneg fun k _ => sq_nonneg' _

/-- THE VARIANCE: it is `⊤`, or a real number that is not negative, and then every centred channel is real. -/
theorem variance_cases (s : Fin 128 → EReal) :
    variance s = ⊤ ∨ (∃ v : ℝ, 0 ≤ v ∧ variance s = (v : EReal)) ∧ ∀ l, IsReal (centred s l) := by
  rw [variance_eq]
  have h0 := sum_sq_nonneg s
  by_cases ht : (∑ k : Fin 128, centred s k * centred s k) = ⊤
  · left; rw [ht]; exact EReal.top_mul_coe_of_pos (by norm_num)
  · right
    refine ⟨?_, fun l => .of_sq fun e => ht ?_⟩
    · obtain ⟨r, hr⟩ := IsReal.of_ne (fun e => by rw [e] at h0; exact absurd h0 (by simp)) ht
      rw [hr] at h0 ⊢
      have : (0 : ℝ) ≤ r := by exact_mod_cast h0
      exact ⟨r * (1 / 128), by positivity, (EReal.coe_mul _ _).symm⟩
    · have := Finset.single_le_sum (f := fun k => centred s k * centred s k) (fun k _ => sq_nonneg' _) (Finset.mem_univ l)
      exact top_le_iff.mp (e ▸ this)

/-- The reciprocal square root and the square root's quotient agree at the variance plus the small number. -/
theorem scale_eq (s : Fin 128 → EReal) (x : EReal) :
    x * Ideal.rsqrt (variance s + eps) = Ideal.div x (Ideal.sqrt (variance s + eps)) := by
  obtain ⟨e, he, hE⟩ := eps_eq
  rcases variance_cases s with h | ⟨⟨v, hv, h⟩, -⟩
  · rw [h, hE, EReal.top_add_coe]
    show x * 0 = Ideal.div x ⊤
    unfold Ideal.div; rw [if_neg (by simp)]; simp
  · rw [h, hE, ← EReal.coe_add]
    have hp : 0 < v + e := by positivity
    have hs : √(v + e) ≠ 0 := (Real.sqrt_pos.mpr hp).ne'
    have h1 : Ideal.rsqrt ((v + e : ℝ) : EReal) = (((√(v + e))⁻¹ : ℝ) : EReal) := by
      show (if v + e < 0 then ⊥ else if v + e = 0 then ⊤ else _) = _
      rw [if_neg hp.le.not_gt, if_neg hp.ne']
    have h2 : Ideal.sqrt ((v + e : ℝ) : EReal) = ((√(v + e) : ℝ) : EReal) := by
      show (if v + e < 0 then ⊥ else _) = _
      rw [if_neg hp.le.not_gt]
    rw [h1, h2, Ideal.div_coe hs, one_div]

/-- The layer norm is the same in both forms, for every row. -/
theorem norm_eq (s g b : Fin 128 → EReal) : normK s g b = normR s g b := by
  funext l; unfold normK normR; rw [scale_eq]

/-- The layer norm of any row is real, for real scale and bias: where a channel is infinite the variance is `⊤`, and the
row is scaled to zero. -/
theorem norm_real (s g b : Fin 128 → EReal) (hg : ∀ l, IsReal (g l)) (hb : ∀ l, IsReal (b l)) (l : Fin 128) :
    IsReal (normK s g b l) := by
  refine .add (.mul ?_ (hg l)) (hb l)
  obtain ⟨e, he, hE⟩ := eps_eq
  rcases variance_cases s with h | ⟨⟨v, hv, h⟩, hc⟩
  · rw [h, hE, EReal.top_add_coe]
    exact ⟨0, show centred s l * 0 = _ by simp⟩
  · refine .mul (hc l) ?_
    rw [h, hE, ← EReal.coe_add]
    have hp : 0 < v + e := by positivity
    refine ⟨(√(v + e))⁻¹, ?_⟩
    show (if v + e < 0 then ⊥ else if v + e = 0 then ⊤ else _) = _
    rw [if_neg hp.le.not_gt, if_neg hp.ne']

/-! ## The activation and the network -/

/-- A unit's value before the activation is real. -/
theorem preact_real (h : Fin 128 → EReal) (w : Fin 128 → Fin 512 → EReal) (b : Fin 512 → EReal) (hh : ∀ l, IsReal (h l))
    (hw : ∀ l k, IsReal (w l k)) (hb : ∀ k, IsReal (b k)) (k : Fin 512) : IsReal (preact h w b k) :=
  .add (.sum _ _ fun l => (hh l).mul (hw l k)) (hb k)

/-- The activation is the same in both forms, at a real number. -/
theorem gelu_eq {v : EReal} (hv : IsReal v) : geluK v = geluR v := by
  obtain ⟨r, rfl⟩ := hv
  have ht : ∀ x : ℝ, Ideal.tanh (x : EReal) = ((Real.tanh x : ℝ) : EReal) := fun _ => rfl
  unfold geluK geluR kerA kerB
  rw [halfK_eq, half_eq, root_eq, cubic_eq, show (1 : EReal) = ((1 : ℝ) : EReal) from rfl]
  simp only [← EReal.coe_mul, ← EReal.coe_add, ht]
  congr 1
  rw [show r * (80338380498831 / 2251799813685248 * r * r + 6693141 / 8388608)
    = 6693141 / 8388608 * (r + 12003091 / 268435456 * (r * r * r)) by ring]
  ring

/-- The hidden units' sum is the sum of the four chunks'. -/
theorem sum_chunks (f : Fin 512 → EReal) : ∑ k : Fin 512, f k = ∑ j : Fin 4, ∑ k : Fin 128, f (unit j k) := by
  rw [← Fintype.sum_prod_type' (f := fun j k => f (unit j k))]
  refine (Fintype.sum_equiv (finProdFinEquiv (m := 4) (n := 128)) _ _ fun p => congrArg f (Fin.ext ?_)).symm
  simp [unit, finProdFinEquiv]; omega

/-- THE EQUATION: the network on the layer norm is the same in both orders. -/
theorem net_eq (s g b : Fin 128 → EReal) (w1 : Fin 128 → Fin 512 → EReal) (b1 : Fin 512 → EReal)
    (w2 : Fin 512 → Fin 128 → EReal) (b2 : Fin 128 → EReal) (hg : ∀ l, IsReal (g l)) (hb : ∀ l, IsReal (b l))
    (hw : ∀ l k, IsReal (w1 l k)) (hb1 : ∀ k, IsReal (b1 k)) (l : Fin 128) :
    netK (normK s g b) w1 b1 w2 b2 l = netR (normR s g b) w1 b1 w2 b2 l := by
  have hG : ∀ k, geluR (preact (normK s g b) w1 b1 k) = geluK (preact (normK s g b) w1 b1 k) := fun k =>
    (gelu_eq (preact_real _ _ _ (norm_real s g b hg hb) hw hb1 k)).symm
  rw [← norm_eq]
  unfold netK netR
  simp only [hG]
  rw [sum_chunks, Fin.sum_univ_four]
  unfold chunk
  abel

end I2st

end
-- ==== Proof.RefValue.lean ====
/-
  What the REFERENCE computes: its composed term, read at a voxel and a channel, is the row functions of RowMath.lean of
  that voxel's row, in the reference's order.
-/
module

public import proofs.«01_k».proof.Proof.Equation
public import proofs.«01_k».proof.Proof.Gen.ReferenceIdeal.Run
public import Idealize.ShloMosaic.Lib.Pointwise

@[expose] public section

set_option maxRecDepth 16384

noncomputable section

namespace I2st.Ref

open Idealize.ShloMosaic Idealize.ShloMosaic.TcCoe Cert.ReferenceIdeal Cert.ReferenceIdeal.Gen Cert.ReferenceIdeal.Value
open scoped BigOperators

/-! ## The reference's steps as array terms -/

/-- The scene: the projection where the mask is set, the embedding elsewhere. -/
def sceneA (x : FVec Ideal S1x262144x128 .f32) (f : IVec S1x262144 1) (e : FVec Ideal S262144x128 .f32)
    (w : FVec Ideal S128x128 .f32) (b : FVec Ideal S128 .f32) : FVec Ideal S1x262144x128 .f32 :=
  select (broadcastInDim S1x262144x128 ![0, 1, 2] bcast_S1x262144x1_S1x262144x128_0_1_2
      (broadcastInDim S1x262144x1 ![0, 1] bcast_S1x262144_S1x262144x1_0_1 f))
    (addf (Host.dotGeneral dot_S1x262144x128_S128x128_S1x262144x128_2_0_01_1_n_n none x w)
      (broadcastInDim S1x262144x128 ![0, 1, 2] bcast_S1x1x128_S1x262144x128_0_1_2
        (broadcastInDim S1x1x128 ![2] bcast_S128_S1x1x128_2 b)))
    (broadcastInDim S1x262144x128 ![1, 2] bcast_S262144x128_S1x262144x128_1_2 e)

/-- The sum of each row. -/
def sumA (s : FVec Ideal S1x262144x128 .f32) : FVec Ideal S1x262144x1 .f32 :=
  broadcastInDim S1x262144x1 ![0, 1] bcast_S1x262144_S1x262144x1_0_1
    (Host.reduceAdd s (constant S_ .f32 0x00000000#32) reducesTo_S1x262144x128_S1x262144_d2 h_S_)

/-- Each row less its mean. -/
def centredA (s : FVec Ideal S1x262144x128 .f32) : FVec Ideal S1x262144x128 .f32 :=
  subf s (broadcastInDim S1x262144x128 ![0, 1, 2] bcast_S1x262144x1_S1x262144x128_0_1_2
    (Host.divf (sumA s) (broadcastInDim S1x262144x1 ![] bcast_S_S1x262144x1 (constant S_ .f32 0x43000000#32))))

/-- Each row's variance, behind the library's guard against a count of no more than zero. -/
def varianceA (s : FVec Ideal S1x262144x128 .f32) : FVec Ideal S1x262144x1 .f32 :=
  select (broadcastInDim S1x262144x1 ![] bcast_S_S1x262144x1
      (cmpf .ogt (subf (constant S_ .f32 0x43000000#32) (sitofp .f32 (constantI S_ 32 0#32)) : FVec Ideal S_ .f32)
        (constant S_ .f32 0x00000000#32)))
    (Host.divf (sumA (mulf (centredA s) (centredA s)))
      (broadcastInDim S1x262144x1 ![] bcast_S_S1x262144x1
        (subf (constant S_ .f32 0x43000000#32) (sitofp .f32 (constantI S_ 32 0#32)))))
    (broadcastInDim S1x262144x1 ![] bcast_S_S1x262144x1 (id (constant S_ .f32 0x7FC00000#32)))

/-- The layer norm. -/
def normA (s : FVec Ideal S1x262144x128 .f32) (g b : FVec Ideal S128 .f32) : FVec Ideal S1x262144x128 .f32 :=
  addf (mulf (Host.divf (centredA s) (broadcastInDim S1x262144x128 ![0, 1, 2] bcast_S1x262144x1_S1x262144x128_0_1_2
        (Host.sqrt (addf (varianceA s) (broadcastInDim S1x262144x1 ![] bcast_S_S1x262144x1 (constant S_ .f32 0x3727C5AC#32))))))
      (broadcastInDim S1x262144x128 ![0, 1, 2] bcast_S1x1x128_S1x262144x128_0_1_2
        (broadcastInDim S1x1x128 ![2] bcast_S128_S1x1x128_2 g)))
    (broadcastInDim S1x262144x128 ![0, 1, 2] bcast_S1x1x128_S1x262144x128_0_1_2
      (broadcastInDim S1x1x128 ![2] bcast_S128_S1x1x128_2 b))

/-- The first layer before its activation. -/
def preactA (h : FVec Ideal S1x262144x128 .f32) (w : FVec Ideal S128x512 .f32) (b : FVec Ideal S512 .f32) :
    FVec Ideal S1x262144x512 .f32 :=
  addf (Host.dotGeneral dot_S1x262144x128_S128x512_S1x262144x512_2_0_01_1_n_n none h w)
    (broadcastInDim S1x262144x512 ![0, 1, 2] bcast_S1x1x512_S1x262144x512_0_1_2
      (broadcastInDim S1x1x512 ![2] bcast_S512_S1x1x512_2 b))

/-- The activation. -/
def geluA (v : FVec Ideal S1x262144x512 .f32) : FVec Ideal S1x262144x512 .f32 :=
  mulf v (mulf (broadcastInDim S1x262144x512 ![] bcast_S_S1x262144x512 (constant S_ .f32 0x3F000000#32))
    (addf (broadcastInDim S1x262144x512 ![] bcast_S_S1x262144x512 (constant S_ .f32 0x3F800000#32))
      (Host.tanh (mulf (broadcastInDim S1x262144x512 ![] bcast_S_S1x262144x512 (constant S_ .f32 0x3F4C422A#32))
        (addf v (mulf (broadcastInDim S1x262144x512 ![] bcast_S_S1x262144x512 (constant S_ .f32 0x3D372713#32))
          (mulf (mulf v v) v)))))))

/-- The network with its residual. -/
def netA (h : FVec Ideal S1x262144x128 .f32) (w1 : FVec Ideal S128x512 .f32) (b1 : FVec Ideal S512 .f32)
    (w2 : FVec Ideal S512x128 .f32) (b2 : FVec Ideal S128 .f32) : FVec Ideal S1x262144x128 .f32 :=
  addf h (addf (Host.dotGeneral dot_S1x262144x512_S512x128_S1x262144x128_2_0_01_1_n_n none (geluA (preactA h w1 b1)) w2)
    (broadcastInDim S1x262144x128 ![0, 1, 2] bcast_S1x1x128_S1x262144x128_0_1_2
      (broadcastInDim S1x1x128 ![2] bcast_S128_S1x1x128_2 b2)))

/-! ## Each step at a voxel and a channel -/

/-- The scene at a voxel is the row function's. -/
theorem sceneA_apply (x : FVec Ideal S1x262144x128 .f32) (f : IVec S1x262144 1) (e : FVec Ideal S262144x128 .f32)
    (w : FVec Ideal S128x128 .f32) (b : FVec Ideal S128 .f32) (n : Fin 262144) (l : Fin 128) :
    sceneA x f e w b (ix3 0 n l) = scene (f (ix2 0 n) = 1#1) (fun k => x (ix3 0 n k)) (fun k l => w (ix2 k l))
      (fun l => b (ix1 l)) (fun l => e (ix2 n l)) l := by
  pointwise [sceneA]
  rfl

/-- A row's sum. -/
theorem sumA_apply (s : FVec Ideal S1x262144x128 .f32) (n : Fin 262144) :
    sumA s (ix3 0 n 0) = ∑ k : Fin 128, s (ix3 0 n k) := by
  pointwise [sumA]

/-- A row less its mean. -/
theorem centredA_apply (s : FVec Ideal S1x262144x128 .f32) (n : Fin 262144) (l : Fin 128) :
    centredA s (ix3 0 n l) = centred (fun k => s (ix3 0 n k)) l := by
  pointwise [centredA, sumA_apply]
  rfl

/-- The count the variance divides by is the row's width. -/
theorem count_eq : (Ideal.ofBits .f32 0x43000000#32 : EReal) - (FloatOps.sitofp .f32 (0#32 : BitVec 32) : Ideal .f32) = width := by
  show width - ((((0#32 : BitVec 32).toInt : ℝ)) : EReal) = width
  simp

/-- The variance of a row: the guard's count is 128, so its other branch is never taken. -/
theorem varianceA_apply (s : FVec Ideal S1x262144x128 .f32) (n : Fin 262144) :
    varianceA s (ix3 0 n 0) = variance (fun k => s (ix3 0 n k)) := by
  pointwise [varianceA, sumA_apply, centredA_apply]
  rw [count_eq, if_pos width_pos]
  rfl

/-- The layer norm of a row. -/
theorem normA_apply (s : FVec Ideal S1x262144x128 .f32) (g b : FVec Ideal S128 .f32) (n : Fin 262144) (l : Fin 128) :
    normA s g b (ix3 0 n l) = normR (fun k => s (ix3 0 n k)) (fun l => g (ix1 l)) (fun l => b (ix1 l)) l := by
  pointwise [normA, centredA_apply, varianceA_apply]
  rfl

/-- The first layer of a row, before its activation. -/
theorem preactA_apply (h : FVec Ideal S1x262144x128 .f32) (w : FVec Ideal S128x512 .f32) (b : FVec Ideal S512 .f32)
    (n : Fin 262144) (k : Fin 512) :
    preactA h w b (ix3 0 n k) = preact (fun l => h (ix3 0 n l)) (fun l k => w (ix2 l k)) (fun k => b (ix1 k)) k := by
  pointwise [preactA]
  rfl

/-- The activation of an element. -/
theorem geluA_apply (v : FVec Ideal S1x262144x512 .f32) (n : Fin 262144) (k : Fin 512) :
    geluA v (ix3 0 n k) = geluR (v (ix3 0 n k)) := by
  pointwise [geluA]
  rfl

/-- The network of a row. -/
theorem netA_apply (h : FVec Ideal S1x262144x128 .f32) (w1 : FVec Ideal S128x512 .f32) (b1 : FVec Ideal S512 .f32)
    (w2 : FVec Ideal S512x128 .f32) (b2 : FVec Ideal S128 .f32) (n : Fin 262144) (l : Fin 128) :
    netA h w1 b1 w2 b2 (ix3 0 n l) = netR (fun l => h (ix3 0 n l)) (fun l k => w1 (ix2 l k)) (fun k => b1 (ix1 k))
      (fun k l => w2 (ix2 k l)) (fun l => b2 (ix1 l)) l := by
  pointwise [netA, geluA_apply, preactA_apply]
  rfl

/-! ## The composed term -/

variable (m : (ℓ : Loc nD τ sig) → Buf (Elt Ideal) ℓ) (c : Dev nD)

/-- Voxel `n`'s features in the scene, from the arguments. -/
def features (n : Fin 262144) : Fin 128 → EReal :=
  scene (m ((c.tc : Thread nD τ).loc main_arg1) (ix2 0 n) = 1#1) (fun k => m ((c.tc : Thread nD τ).loc main_arg0) (ix3 0 n k))
    (fun k l => m ((c.tc : Thread nD τ).loc main_arg3) (ix2 k l)) (fun l => m ((c.tc : Thread nD τ).loc main_arg4) (ix1 l)) (fun l => m ((c.tc : Thread nD τ).loc main_arg2) (ix2 n l))

/-- WHAT THE REFERENCE RETURNS: at voxel `n` and channel `l` the network on the layer norm of the voxel's features, in the
reference's order. -/
def result : Buf (Elt Ideal) ((c.tc : Thread nD τ).loc main_v47) := fun i : S262144x128.Idx =>
  netR (normR (features m c (i 0)) (fun l => m ((c.tc : Thread nD τ).loc main_arg5) (ix1 l)) (fun l => m ((c.tc : Thread nD τ).loc main_arg6) (ix1 l)))
    (fun l k => m ((c.tc : Thread nD τ).loc main_arg7) (ix2 l k)) (fun k => m ((c.tc : Thread nD τ).loc main_arg8) (ix1 k))
    (fun k l => m ((c.tc : Thread nD τ).loc main_arg9) (ix2 k l)) (fun l => m ((c.tc : Thread nD τ).loc main_arg10) (ix1 l)) (i 1)

/-- The composed term is the steps one after another. -/
theorem res_eq_steps : res_out0 m c = shapeCast S262144x128
    (netA (normA (sceneA (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) (m ((c.tc : Thread nD τ).loc main_arg5)) (m ((c.tc : Thread nD τ).loc main_arg6)))
      (m ((c.tc : Thread nD τ).loc main_arg7)) (m ((c.tc : Thread nD τ).loc main_arg8))
      (m ((c.tc : Thread nD τ).loc main_arg9)) (m ((c.tc : Thread nD τ).loc main_arg10)))
    shapeCasts_S1x262144x128_S262144x128 := by
  rfl

/-- The reference's result is `result`. -/
theorem res_eq : res_out0 m c = result m c := by
  rw [res_eq_steps]
  funext i
  change S262144x128.Idx at i
  idx_vars i
  pointwise [netA_apply, normA_apply, sceneA_apply]
  rfl

end I2st.Ref

end
-- ==== Proof.PreValue.lean ====
/-
  What the precondition says of the arguments: that every element of the layer norm's scale and shift and of the first
  layer's weights and bias is a real number.
-/
module

public import proofs.«01_k».proof.Proof.Equation
public import proofs.«01_k».proof.Proof.Gen.Pre_finite_params
public import Idealize.ShloMosaic.Lib.ReduceAll
public import Idealize.ShloMosaic.Lib.Pointwise

@[expose] public section

noncomputable section

namespace I2st.Pre

open Idealize.ShloMosaic Cert.Pre_finite_params Cert.Pre_finite_params.Facts

/-- There is one index of a scalar. -/
instance : Subsingleton S_.Idx := ⟨fun a b => funext fun k => k.elim0⟩

/-- A one-bit conjunction that is set has both bits set. -/
theorem bit_and {a b : BitVec 1} (h : a &&& b = 1#1) : a = 1#1 ∧ b = 1#1 := by
  revert a b; decide

/-- A number whose magnitude lies under the printed infinity is real. -/
theorem real_of_lt (x : EReal) (h : BitVec.ofBool (decide (max x (-x) < Ideal.ofBits .f32 0x7F800000#32)) = 1#1) : IsReal x := by
  have top : Ideal.ofBits .f32 0x7F800000#32 = ⊤ := by simp [Ideal.ofBits, Ideal.ieee]
  rw [top] at h
  have lt : max x (-x) < ⊤ := by
    by_contra hn
    simp [hn] at h
  refine IsReal.of_ne ?_ ?_
  · rintro rfl; simp at lt
  · rintro rfl; simp at lt

/-- An array whose elements' magnitudes are all under the printed infinity has real elements. -/
theorem real_of_all {s : Shape} {axes : List (Fin s.rank)} (v : FVec Ideal s .f32) (hb : S_.BroadcastsInDim s (![] : Fin 0 → Fin s.rank))
    (hr : s.ReducesTo axes S_) (hu : 0 < S_.numel) (j : S_.Idx)
    (e : Host.reduce IntOp.andi (cmpf .olt (Host.absf v) (broadcastInDim s ![] hb (constant S_ .f32 0x7F800000#32 : FVec Ideal S_ .f32)))
      (constantI S_ 1 1#1) hr hu j = 1#1) (i : s.Idx) : IsReal (v i) :=
  real_of_lt (v i) (Host.reduce_andi_all _ _ hr hu j e i)

/-- Where the precondition holds, the layer norm's scale and shift and the first layer's weights and bias are real. -/
theorem finite [Cert.Pre_finite_params.Facts] (x : FVec Ideal S1x262144x128 .f32) (f : IVec S1x262144 1) (e : FVec Ideal S262144x128 .f32) (wp : FVec Ideal S128x128 .f32)
    (bp g b : FVec Ideal S128 .f32) (w1 : FVec Ideal S128x512 .f32) (b1 : FVec Ideal S512 .f32) (w2 : FVec Ideal S512x128 .f32)
    (b2 : FVec Ideal S128 .f32) (h : fn (F := Ideal) x f e wp bp g b w1 b1 w2 b2 = fun _ => 1#1) :
    (∀ i, IsReal (g i)) ∧ (∀ i, IsReal (b i)) ∧ (∀ i, IsReal (w1 i)) ∧ (∀ i, IsReal (b1 i)) := by
  have h0 := congrFun h (fun k => k.elim0)
  dsimp only [fn, fn_part1] at h0
  obtain ⟨h1, hb1⟩ := bit_and h0
  obtain ⟨h2, hw1⟩ := bit_and h1
  obtain ⟨hg, hb⟩ := bit_and h2
  exact ⟨real_of_all g _ _ _ _ hg, real_of_all b _ _ _ _ hb, real_of_all w1 _ _ _ _ hw1, real_of_all b1 _ _ _ _ hb1⟩

end I2st.Pre

end
-- ==== Proof.Claims.lean ====
/-
  The claims, one theorem each: the frames of the kernel, of its idealization and of the reference; that the two named
  constants are what the printed words round; and that the idealized kernel and the reference return equal arrays.
-/
module

public import proofs.«01_k».proof.Defs
public import proofs.«01_k».proof.Proof.ArrayValue
public import proofs.«01_k».proof.Proof.RefValue
public import proofs.«01_k».proof.Proof.PreValue
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace I2st.Claims

open Idealize.ShloMosaic Idealize.ShloMosaic.TcCoe Idealize.SL.Sem

/-- The kernel runs without fault, leaves its arguments as they were and its semaphores at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- And under the precondition too. -/
theorem frame_pi_pre : Cert.quiescent_KernelIdeal_pre_finite_params := fun m ρ _ => Cert.KernelIdeal.Gen.frame m ρ

/-- The reference runs without fault, leaves its arguments as they were and its semaphores at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And under the precondition too. -/
theorem frame_ri_pre : Cert.quiescent_ReferenceIdeal_pre_finite_params := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The table gives each of the two names the real number written beside it. -/
theorem preserves : Cert.preserves_Kernel_KernelIdeal :=
  ⟨IdealRules.named_const.statement Cert.KernelIdeal.κ "b" .bf16 0x3D12#16 ((80338380498831 / 2251799813685248 : ℝ) : EReal) rfl,
    IdealRules.named_const.statement Cert.KernelIdeal.κ "a" .bf16 0x3F4C#16 ((6693141 / 8388608 : ℝ) : EReal) rfl⟩

/-- From memories that agree on the arguments, and with the precondition, the reference's result array is the kernel's:
each is the network of each voxel's features in its own order, and the two orders give one number. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_finite_params m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Ref.result m' c = Array.result m c := by
  obtain ⟨hg, hb, hw, hb1⟩ := Pre.finite _ _ _ _ _ _ _ _ _ _ _ (hp c)
  funext i
  unfold Ref.result Array.result Ref.features Array.features
  rw [h0, h1, h2, h3, h4, h5, h6, h7, h8, h9, h10]
  exact (net_eq _ _ _ _ _ _ _ (fun l => hg (ix1 l)) (fun l => hb (ix1 l)) (fun l k => hw (ix2 l k)) (fun k => hb1 (ix1 k)) _).symm

/-- THE VALUE CLAIM: both programs run, return equal arrays and leave their arguments as they were. -/
theorem algebraic : Cert.algebraic_KernelIdeal_ReferenceIdeal_pre_finite_params := by
  intro m ρ m' ρ' hp hagree
  refine ⟨fun c => Array.result m c, ?_, ?_⟩
  · exact (θ_run Cert.KernelIdeal.defs _ _).mono (fun _ h c => ⟨(h c).1.trans (Array.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    exact (Ref.res_eq m' c).trans (results_eq m m' c hp h0 h1 h2 h3 h4 h5 h6 h7 h8 h9 h10)

end I2st.Claims

end
-- ==== Proof.lean ====
/- The certificate: the facts the programs state, and the claims of Proof/Claims.lean in the order of `Cert.Claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite_params
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the statement claims of the kernel holds. -/
theorem claim : Cert.Claim := ⟨Cert.Kernel.Gen.facts, Cert.KernelIdeal.Gen.facts, Cert.ReferenceIdeal.Gen.facts,
  Cert.Pre_finite_params.Gen.facts, I2st.Claims.frame_p, I2st.Claims.frame_pi, I2st.Claims.frame_pi_pre,
  I2st.Claims.frame_ri, I2st.Claims.frame_ri_pre, I2st.Claims.preserves, I2st.Claims.algebraic⟩

end Cert.Proof

end
